-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x64 : Shape := ⟨2, ![262144, 64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S131072x128 : Shape := ⟨2, ![131072, 128]⟩
abbrev S_ : Shape := ⟨0, ![]⟩
abbrev S64x64 : Shape := ⟨2, ![64, 64]⟩
abbrev S128x64 : Shape := ⟨2, ![128, 64]⟩
abbrev S32x18 : Shape := ⟨2, ![32, 18]⟩
abbrev S64x18 : Shape := ⟨2, ![64, 18]⟩
abbrev S64 : Shape := ⟨1, ![64]⟩
abbrev S1x64 : Shape := ⟨2, ![1, 64]⟩
abbrev S18 : Shape := ⟨1, ![18]⟩
abbrev S1x18 : Shape := ⟨2, ![1, 18]⟩
abbrev S131072x18 : Shape := ⟨2, ![131072, 18]⟩
abbrev S4096x128 : Shape := ⟨2, ![4096, 128]⟩
abbrev S4096x18 : Shape := ⟨2, ![4096, 18]⟩
abbrev S4096x64 : Shape := ⟨2, ![4096, 64]⟩
abbrev S4096x9 : Shape := ⟨2, ![4096, 9]⟩
abbrev S4096 : Shape := ⟨1, ![4096]⟩
abbrev S4096x1 : Shape := ⟨2, ![4096, 1]⟩
abbrev S262144x9 : Shape := ⟨2, ![262144, 9]⟩

abbrev nBuf : Space → Nat
  | .hbm => 22
  | .vmem => 8
  | .smem => 0
  | _ => 0

abbrev bufTy : (tb : Table) → Fin (tcTables nBuf tb) → BufTy
  | .hbm, ⟨0, _⟩ => ⟨S262144x64, .f32⟩
  | .hbm, ⟨1, _⟩ => ⟨S64x32, .f32⟩
  | .hbm, ⟨2, _⟩ => ⟨S32, .f32⟩
  | .hbm, ⟨3, _⟩ => ⟨S32x9, .f32⟩
  | .hbm, ⟨4, _⟩ => ⟨S9, .f32⟩
  | .hbm, ⟨5, _⟩ => ⟨S131072x128, .f32⟩
  | .hbm, ⟨6, _⟩ => ⟨S_, .f32⟩
  | .hbm, ⟨7, _⟩ => ⟨S64x32, .f32⟩
  | .hbm, ⟨8, _⟩ => ⟨S64x64, .f32⟩
  | .hbm, ⟨9, _⟩ => ⟨S64x64, .f32⟩
  | .hbm, ⟨10, _⟩ => ⟨S128x64, .f32⟩
  | .hbm, ⟨11, _⟩ => ⟨S_, .f32⟩
  | .hbm, ⟨12, _⟩ => ⟨S32x9, .f32⟩
  | .hbm, ⟨13, _⟩ => ⟨S32x18, .f32⟩
  | .hbm, ⟨14, _⟩ => ⟨S32x18, .f32⟩
  | .hbm, ⟨15, _⟩ => ⟨S64x18, .f32⟩
  | .hbm, ⟨16, _⟩ => ⟨S64, .f32⟩
  | .hbm, ⟨17, _⟩ => ⟨S1x64, .f32⟩
  | .hbm, ⟨18, _⟩ => ⟨S18, .f32⟩
  | .hbm, ⟨19, _⟩ => ⟨S1x18, .f32⟩
  | .hbm, ⟨20, _⟩ => ⟨S131072x18, .f32⟩
  | .hbm, ⟨21, _⟩ => ⟨S262144x9, .f32⟩
  | .local _ .vmem, ⟨0, _⟩ => ⟨S4096x128, .f32⟩
  | .local _ .vmem, ⟨1, _⟩ => ⟨S4096x128, .f32⟩
  | .local _ .vmem, ⟨2, _⟩ => ⟨S128x64, .f32⟩
  | .local _ .vmem, ⟨3, _⟩ => ⟨S1x64, .f32⟩
  | .local _ .vmem, ⟨4, _⟩ => ⟨S64x18, .f32⟩
  | .local _ .vmem, ⟨5, _⟩ => ⟨S1x18, .f32⟩
  | .local _ .vmem, ⟨6, _⟩ => ⟨S4096x18, .f32⟩
  | .local _ .vmem, ⟨7, _⟩ => ⟨S4096x18, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S262144x64 : Shape := ⟨2, ![262144, 64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S262144x32 : Shape := ⟨2, ![262144, 32]⟩
abbrev S1x32 : Shape := ⟨2, ![1, 32]⟩
abbrev S_ : Shape := ⟨0, ![]⟩
abbrev S262144x9 : Shape := ⟨2, ![262144, 9]⟩
abbrev S1x9 : Shape := ⟨2, ![1, 9]⟩
abbrev S262144 : Shape := ⟨1, ![262144]⟩
abbrev S262144x1 : Shape := ⟨2, ![262144, 1]⟩

abbrev nBuf : Space → Nat
  | .hbm => 37
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x32, .f32⟩
  | .hbm, ⟨2, _⟩ => ⟨S32, .f32⟩
  | .hbm, ⟨3, _⟩ => ⟨S32x9, .f32⟩
  | .hbm, ⟨4, _⟩ => ⟨S9, .f32⟩
  | .hbm, ⟨5, _⟩ => ⟨S262144x32, .f32⟩
  | .hbm, ⟨6, _⟩ => ⟨S1x32, .f32⟩
  | .hbm, ⟨7, _⟩ => ⟨S262144x32, .f32⟩
  | .hbm, ⟨8, _⟩ => ⟨S262144x32, .f32⟩
  | .hbm, ⟨9, _⟩ => ⟨S_, .f32⟩
  | .hbm, ⟨10, _⟩ => ⟨S262144x32, .f32⟩
  | .hbm, ⟨11, _⟩ => ⟨S262144x32, .f32⟩
  | .hbm, ⟨12, _⟩ => ⟨S262144x32, .f32⟩
  | .hbm, ⟨13, _⟩ => ⟨S_, .f32⟩
  | .hbm, ⟨14, _⟩ => ⟨S_, .f32⟩
  | .hbm, ⟨15, _⟩ => ⟨S262144x32, .f32⟩
  | .hbm, ⟨16, _⟩ => ⟨S262144x32, .f32⟩
  | .hbm, ⟨17, _⟩ => ⟨S262144x32, .f32⟩
  | .hbm, ⟨18, _⟩ => ⟨S262144x32, .f32⟩
  | .hbm, ⟨19, _⟩ => ⟨S262144x9, .f32⟩
  | .hbm, ⟨20, _⟩ => ⟨S1x9, .f32⟩
  | .hbm, ⟨21, _⟩ => ⟨S262144x9, .f32⟩
  | .hbm, ⟨22, _⟩ => ⟨S262144x9, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S262144x1, .f32⟩
  | .hbm, ⟨29, _⟩ => ⟨S262144x9, .f32⟩
  | .hbm, ⟨30, _⟩ => ⟨S262144x9, .f32⟩
  | .hbm, ⟨31, _⟩ => ⟨S262144x9, .f32⟩
  | .hbm, ⟨32, _⟩ => ⟨S_, .f32⟩
  | .hbm, ⟨33, _⟩ => ⟨S262144, .f32⟩
  | .hbm, ⟨34, _⟩ => ⟨S262144x1, .f32⟩
  | .hbm, ⟨35, _⟩ => ⟨S262144x9, .f32⟩
  | .hbm, ⟨36, _⟩ => ⟨S262144x9, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Row.lean ====
/-
  What the classifier computes for one row, over the extended reals: two dense layers with the exact GELU between them,
  then a softmax over nine classes. Both programs are read as this function of a row, and the lemmas here are the
  scalar facts about it: the two spellings of GELU agree.
-/
module

public import Idealize.ShloMosaic.PureOps.Ideal.Laws

@[expose] public section

noncomputable section

open Idealize.ShloMosaic

namespace Cert.Row

/-- The inverse of the square root of two. -/
def rsqrt2 : EReal := (((Real.sqrt 2)⁻¹ : ℝ) : EReal)

/-- The exact GELU: half of `h`, times one plus the error function of `h / √2`. -/
def gelu (h : EReal) : EReal := Ideal.ofBits .f32 0x3F000000#32 * h * (1 + Ideal.erf (h * rsqrt2))

/-- One unit of a dense layer: the inner product of the row and the unit's weights, plus its bias. -/
def dense {n : ℕ} (x w : Fin n → EReal) (b : EReal) : EReal := (∑ k, x k * w k) + b

/-- The largest of nine numbers. -/
def top (l : Fin 9 → EReal) : EReal := Finset.univ.fold max ⊥ l

/-- Softmax over nine classes, with the largest logit subtracted first. -/
def softmax (l : Fin 9 → EReal) (q : Fin 9) : EReal :=
  Ideal.div (Ideal.exp (l q - top l)) (∑ k, Ideal.exp (l k - top l))

/-- The logits of a row `x` of 64 features: a hidden layer of 32 units under GELU, and an output layer of 9. -/
def logits (x : Fin 64 → EReal) (w1 : Fin 64 → Fin 32 → EReal) (b1 : Fin 32 → EReal)
    (w2 : Fin 32 → Fin 9 → EReal) (b2 : Fin 9 → EReal) (q : Fin 9) : EReal :=
  dense (fun k => gelu (dense x (fun d => w1 d k) (b1 k))) (fun k => w2 k q) (b2 q)

/-- The pattern of the float `1.0` denotes the number one. -/
theorem ofBits_one : Ideal.ofBits .f32 0x3F800000#32 = 1 := by
  simp [Ideal.ofBits, Ideal.ieee, -EReal.coe_mul]; norm_num

/-- The pattern of the float `2.0` denotes the number two. -/
theorem ofBits_two : Ideal.ofBits .f32 0x40000000#32 = ((2 : ℝ) : EReal) := by
  simp [Ideal.ofBits, Ideal.ieee, -EReal.coe_mul]; norm_num

/-- The pattern of the float `0.0` denotes zero. -/
theorem ofBits_zero : Ideal.ofBits .f32 0x00000000#32 = 0 := by
  simp [Ideal.ofBits, Ideal.ieee]

/-- The pattern of the float minus infinity denotes the bottom of the extended reals. -/
theorem ofBits_bot : Ideal.ofBits .f32 0xFF800000#32 = ⊥ := by
  simp [Ideal.ofBits, Ideal.ieee]

/-- Dividing by the square root of two is multiplying by its inverse. -/
theorem div_sqrt2 (h : EReal) : Ideal.div h (Ideal.sqrt (Ideal.ofBits .f32 0x40000000#32)) = h * rsqrt2 := by
  have h2 : ((Real.sqrt 2 : ℝ) : EReal) ≠ 0 := by simp
  rw [ofBits_two, Ideal.sqrt_coe, if_neg (by norm_num), Ideal.div, if_neg h2, rsqrt2, EReal.coe_inv]

/-- GELU written with the complementary error function at the negated argument is GELU: the error function is odd. -/
theorem gelu_erfc (h : EReal) :
    Ideal.ofBits .f32 0x3F000000#32 * h * Ideal.erfc (Ideal.div (-h) (Ideal.sqrt (Ideal.ofBits .f32 0x40000000#32)))
      = gelu h := by
  rw [div_sqrt2, neg_mul, Ideal.erfc_neg, gelu]

end Cert.Row

end
-- ==== Proof.Block.lean ====
/-
  One block of the kernel read at an index. The kernel packs two consecutive rows of the problem into one row of 128
  features, and keeps the two rows apart with block-diagonal weights: columns 0–8 of a block's result belong to the first
  of the two rows, columns 9–17 to the second. The lemmas here say what a block of the result is as a function of the
  packed row and of the block-diagonal weights, whatever these hold.
-/
module

public import proofs.«01_k».proof.Proof.Row
public import proofs.«01_k».proof.Proof.Gen.KernelIdeal.Skeleton
public import Idealize.ShloMosaic.Lib.Pointwise

@[expose] public section

noncomputable section

open Idealize.ShloMosaic Idealize.ShloMosaic.TcCoe Idealize.SL.Sem

namespace Cert.Block

open Cert.KernelIdeal Cert.KernelIdeal.Gen Cert.KernelIdeal.Facts

/-- The column of class `q` in the half `s` of a packed row of logits. -/
def col (s : Fin 2) (q : Fin 9) : Fin 18 := ⟨9 * s.val + q.val, by omega⟩

/-- The packed logits at a row and a column: the two dense layers over the packed features, with GELU between. -/
def packed (x : Fin 128 → EReal) (w1 : Fin 128 → Fin 64 → EReal) (b1 : Fin 64 → EReal)
    (w2 : Fin 64 → Fin 18 → EReal) (b2 : Fin 18 → EReal) (j : Fin 18) : EReal :=
  Row.dense (fun k => Row.gelu (Row.dense x (fun d => w1 d k) (b1 k))) (fun k => w2 k j) (b2 j)

/-- The kernel's named constant is the inverse of the square root of two. -/
theorem named_eq : (Named.named (F := Ideal) Cert.KernelIdeal.κ "sqrt_half" (φ := .f32) 0x3F3504F3#32 : EReal) = Row.rsqrt2 := rfl

variable (x : Vec Ideal S4096x128 .f32) (w1 : Vec Ideal S128x64 .f32) (b1 : Vec Ideal S1x64 .f32)
  (w2 : Vec Ideal S64x18 .f32) (b2 : Vec Ideal S1x18 .f32)

/-- The block's logits at a row and a column. -/
theorem logits_apply (r : Fin 4096) (j : Fin 18) :
    k0_pay2 x w1 b1 w2 b2 (ix2 r j)
      = packed (fun d => x (ix2 r d)) (fun d k => w1 (ix2 d k)) (fun k => b1 (ix2 0 k))
          (fun k j => w2 (ix2 k j)) (fun j => b2 (ix2 0 j)) j := by
  pointwise [k0_pay2]
  rfl

/-- The second half's exponentials: of the logits of columns 9–17 less the largest of them. -/
theorem exp1_apply (r : Fin 4096) (q : Fin 9) :
    k0_pay3 x w1 b1 w2 b2 (ix2 r q)
      = Ideal.exp (k0_pay2 x w1 b1 w2 b2 (ix2 r (col 1 q)) - Row.top fun k => k0_pay2 x w1 b1 w2 b2 (ix2 r (col 1 k))) := by
  pointwise [k0_pay3, Row.top, Row.ofBits_bot]
  rfl

/-- The first half of the result: softmax of the logits of columns 0–8. -/
theorem soft0_apply (r : Fin 4096) (q : Fin 9) :
    k0_pay4 x w1 b1 w2 b2 (ix2 r q) = Row.softmax (fun k => k0_pay2 x w1 b1 w2 b2 (ix2 r (col 0 k))) q := by
  pointwise [k0_pay4, Row.top, Row.softmax, Row.ofBits_bot]
  simp only [col, Fin.val_zero, mul_zero, zero_add]

/-- The block of the result: the first half is what it is handed, the second the quotient of what it is handed by its sum. -/
theorem join_apply (e1 p0 : FVec Ideal S4096x9 .f32) (r : Fin 4096) (s : Fin 2) (q : Fin 9) :
    k0_pay1 e1 p0 (ix2 r (col s q))
      = if s = 0 then p0 (ix2 r q) else Ideal.div (e1 (ix2 r q)) (∑ k, e1 (ix2 r k)) := by
  fin_cases s
  · pointwise [k0_pay1, col]
  · pointwise [k0_pay1, col]

/-- A block of the result at a row, in half `s` and at class `q`: softmax of that half's logits. -/
theorem block_apply (r : Fin 4096) (s : Fin 2) (q : Fin 9) :
    k0_pay1 (k0_pay3 x w1 b1 w2 b2) (k0_pay4 x w1 b1 w2 b2) (ix2 r (col s q))
      = Row.softmax (fun k => packed (fun d => x (ix2 r d)) (fun d k => w1 (ix2 d k)) (fun k => b1 (ix2 0 k))
          (fun k j => w2 (ix2 k j)) (fun j => b2 (ix2 0 j)) (col s k)) q := by
  rw [join_apply]
  fin_cases s
  · simp only [Fin.zero_eta, Fin.isValue, if_true, soft0_apply, logits_apply]
  · simp only [Fin.mk_one, Fin.isValue, one_ne_zero, if_false, exp1_apply, logits_apply]
    rfl

end Cert.Block

end
-- ==== Proof.Unpack.lean ====
/-
  The equation between the packed row and the two rows it holds. Block-diagonal weights hold zero off the diagonal, and a
  product with zero is zero over the extended reals whatever the other factor, so the half `s` of a packed row's logits is
  the logits of the row `s` alone.
-/
module

public import proofs.«01_k».proof.Proof.Block

@[expose] public section

noncomputable section

open Idealize.ShloMosaic

namespace Cert.Unpack

/-- Position `t` of the half `s` of an axis of `2 * n` positions. -/
def at2 {n N : ℕ} (hN : 2 * n = N) (s : Fin 2) (t : Fin n) : Fin N :=
  ⟨s.val * n + t.val, by
    have hs := s.isLt
    have ht := t.isLt
    have : s.val * n ≤ 1 * n := Nat.mul_le_mul_right _ (by omega)
    omega⟩

/-- A unit whose weights vanish outside the half `s` reads that half alone. -/
theorem dense_half {n N : ℕ} (hN : 2 * n = N) (x w : Fin N → EReal) (xs : Fin 2 → Fin n → EReal) (ws : Fin n → EReal)
    (b : EReal) (s : Fin 2) (hx : ∀ j t, x (at2 hN j t) = xs j t)
    (hw : ∀ j t, w (at2 hN j t) = if j = s then ws t else 0) :
    Row.dense x w b = Row.dense (xs s) ws b := by
  unfold Row.dense
  rw [Fin.sum_univ_tiles 2 n hN]
  have h : ∀ j : Fin 2, ∑ t : Fin n, x (at2 hN j t) * w (at2 hN j t)
      = if j = s then ∑ t, xs s t * ws t else 0 := fun j => by
    by_cases e : j = s
    · subst e
      simp only [if_true, hx, hw]
    · simp only [if_neg e, hw, mul_zero, Finset.sum_const_zero]
  refine congrArg (· + b) ((Finset.sum_congr rfl fun j _ => h j).trans ?_)
  rw [Finset.sum_ite_eq' Finset.univ s, if_pos (Finset.mem_univ s)]

/-- The half `s` of a packed row's logits is the logits of the row `s`. -/
theorem packed_col (x : Fin 128 → EReal) (w1 : Fin 128 → Fin 64 → EReal) (b1 : Fin 64 → EReal)
    (w2 : Fin 64 → Fin 18 → EReal) (b2 : Fin 18 → EReal)
    (xs : Fin 2 → Fin 64 → EReal) (v1 : Fin 64 → Fin 32 → EReal) (c1 : Fin 32 → EReal)
    (v2 : Fin 32 → Fin 9 → EReal) (c2 : Fin 9 → EReal)
    (hx : ∀ j t, x (at2 rfl j t) = xs j t)
    (hw1 : ∀ j t i k, w1 (at2 rfl j t) (at2 rfl i k) = if j = i then v1 t k else 0)
    (hb1 : ∀ i k, b1 (at2 rfl i k) = c1 k)
    (hw2 : ∀ j k s q, w2 (at2 rfl j k) (at2 rfl s q) = if j = s then v2 k q else 0)
    (hb2 : ∀ s q, b2 (at2 rfl s q) = c2 q) (s : Fin 2) (q : Fin 9) :
    Block.packed x w1 b1 w2 b2 (at2 rfl s q) = Row.logits (xs s) v1 c1 v2 c2 q := by
  unfold Block.packed Row.logits
  rw [hb2]
  exact dense_half rfl _ _ (fun j k => Row.gelu (Row.dense (xs j) (fun d => v1 d k) (c1 k))) _ _ s
    (fun j k => by
      rw [hb1, dense_half rfl x _ xs (fun d => v1 d k) (c1 k) j hx fun i t => hw1 i t j k])
    (fun j k => hw2 j k s q)

/-- The column of a class in a half, in this module's spelling. -/
theorem col_eq (s : Fin 2) (q : Fin 9) : Block.col s q = at2 rfl s q :=
  Fin.ext (by unfold Block.col at2; dsimp only; omega)

end Cert.Unpack

end
-- ==== Proof.Entry.lean ====
/-
  What the kernel's region finds in its five input arrays: the features with two consecutive rows packed into one, the two
  weight matrices on the diagonal of a matrix of twice the size with zeros elsewhere, and the biases repeated.
-/
module

public import proofs.«01_k».proof.Proof.Unpack
public import proofs.«01_k».proof.Proof.Gen.KernelIdeal.Frame
public import Idealize.ShloMosaic.Lib.Pointwise
public import Idealize.ShloMosaic.Lib.StableHlo.Run

@[expose] public section

noncomputable section

open Idealize.ShloMosaic Idealize.ShloMosaic.TcCoe Idealize.SL.Sem

namespace Cert.Entry

open Cert.KernelIdeal Cert.KernelIdeal.Gen Cert.KernelIdeal.Facts Cert.Unpack

/-- The features, two rows to one. -/
def x2 (x : FVec Ideal S262144x64 .f32) : FVec Ideal S131072x128 .f32 :=
  shapeCast S131072x128 x shapeCasts_S262144x64_S131072x128

/-- The first layer's weights on the diagonal. -/
def w1p (w : FVec Ideal S64x32 .f32) : FVec Ideal S128x64 .f32 :=
  have z : FVec Ideal S64x32 .f32 := broadcastInDim S64x32 ![] bcast_S_S64x32 (constant S_ .f32 0x00000000#32)
  concatenate S128x64 0
    [⟨S64x64, concatenate S64x64 1 [⟨S64x32, w⟩, ⟨S64x32, z⟩] concatenates_S64x32_S64x32_S64x64_d1⟩,
     ⟨S64x64, concatenate S64x64 1 [⟨S64x32, z⟩, ⟨S64x32, w⟩] concatenates_S64x32_S64x32_S64x64_d1⟩]
    concatenates_S64x64_S64x64_S128x64_d0

/-- The second layer's weights on the diagonal. -/
def w2p (w : FVec Ideal S32x9 .f32) : FVec Ideal S64x18 .f32 :=
  have z : FVec Ideal S32x9 .f32 := broadcastInDim S32x9 ![] bcast_S_S32x9 (constant S_ .f32 0x00000000#32)
  concatenate S64x18 0
    [⟨S32x18, concatenate S32x18 1 [⟨S32x9, w⟩, ⟨S32x9, z⟩] concatenates_S32x9_S32x9_S32x18_d1⟩,
     ⟨S32x18, concatenate S32x18 1 [⟨S32x9, z⟩, ⟨S32x9, w⟩] concatenates_S32x9_S32x9_S32x18_d1⟩]
    concatenates_S32x18_S32x18_S64x18_d0

/-- The first layer's biases, twice. -/
def b1p (b : FVec Ideal S32 .f32) : FVec Ideal S1x64 .f32 :=
  shapeCast S1x64 (concatenate S64 0 [⟨S32, b⟩, ⟨S32, b⟩] concatenates_S32_S32_S64_d0) shapeCasts_S64_S1x64

/-- The second layer's biases, twice. -/
def b2p (b : FVec Ideal S9 .f32) : FVec Ideal S1x18 .f32 :=
  shapeCast S1x18 (concatenate S18 0 [⟨S9, b⟩, ⟨S9, b⟩] concatenates_S9_S9_S18_d0) shapeCasts_S18_S1x18

/-- The half `j` of packed row `p` is row `2 p + j`. -/
theorem x2_apply (x : FVec Ideal S262144x64 .f32) (p : Fin 131072) (j : Fin 2) (t : Fin 64) :
    x2 x (ix2 p (at2 rfl j t)) = x (ix2 ⟨2 * p.val + j.val, by omega⟩ t) := by
  pointwise [x2, at2]
  refine congrArg (fun n => x (ix2 n t)) (Fin.ext ?_)
  have ht := t.isLt
  show p.val * 2 + (j.val * 64 + t.val) / 64 = 2 * p.val + j.val
  omega

/-- The first layer's packed weights: the weights in the two diagonal blocks, zero in the others. -/
theorem w1p_apply (w : FVec Ideal S64x32 .f32) (j : Fin 2) (t : Fin 64) (i : Fin 2) (k : Fin 32) :
    w1p w (ix2 (at2 rfl j t) (at2 rfl i k)) = if j = i then w (ix2 t k) else 0 := by
  fin_cases j <;> fin_cases i <;> pointwise [w1p, at2]

/-- The second layer's packed weights: the weights in the two diagonal blocks, zero in the others. -/
theorem w2p_apply (w : FVec Ideal S32x9 .f32) (j : Fin 2) (k : Fin 32) (s : Fin 2) (q : Fin 9) :
    w2p w (ix2 (at2 rfl j k) (at2 rfl s q)) = if j = s then w (ix2 k q) else 0 := by
  fin_cases j <;> fin_cases s <;> pointwise [w2p, at2]

/-- The first layer's packed biases are the biases in either half. -/
theorem b1p_apply (b : FVec Ideal S32 .f32) (i : Fin 2) (k : Fin 32) : b1p b (ix2 0 (at2 rfl i k)) = b (ix1 k) := by
  fin_cases i <;> pointwise [b1p, at2]

/-- The second layer's packed biases are the biases in either half. -/
theorem b2p_apply (b : FVec Ideal S9 .f32) (s : Fin 2) (q : Fin 9) : b2p b (ix2 0 (at2 rfl s q)) = b (ix1 q) := by
  fin_cases s <;> pointwise [b2p, at2]

variable (m : (ℓ : Loc nD τ sig) → Buf (Elt Ideal) ℓ) (c : Dev nD)

/-- The region finds the packed features in its first array. -/
theorem V_x : V m c main_v0 = x2 (m ((c : Thread nD τ).loc main_arg0)) := by
  dsimp only [V, V0]
  simp only [List.flatten_cons, List.flatten_nil, List.append_nil, List.cons_append, List.nil_append]
  after_results_simp
  rfl

/-- The region finds the first layer's packed weights in its second array. -/
theorem V_w1 : V m c main_v2 = w1p (m ((c : Thread nD τ).loc main_arg1)) := by
  dsimp only [V, V0]
  simp only [List.flatten_cons, List.flatten_nil, List.append_nil, List.cons_append, List.nil_append]
  after_results_simp
  rfl

/-- The region finds the first layer's packed biases in its third array. -/
theorem V_b1 : V m c main_v6 = b1p (m ((c : Thread nD τ).loc main_arg2)) := by
  dsimp only [V, V0]
  simp only [List.flatten_cons, List.flatten_nil, List.append_nil, List.cons_append, List.nil_append]
  after_results_simp
  rfl

/-- The region finds the second layer's packed weights in its fourth array. -/
theorem V_w2 : V m c main_v4 = w2p (m ((c : Thread nD τ).loc main_arg3)) := by
  dsimp only [V, V0]
  simp only [List.flatten_cons, List.flatten_nil, List.append_nil, List.cons_append, List.nil_append]
  after_results_simp
  rfl

/-- The region finds the second layer's packed biases in its fifth array. -/
theorem V_b2 : V m c main_v8 = b2p (m ((c : Thread nD τ).loc main_arg4)) := by
  dsimp only [V, V0]
  simp only [List.flatten_cons, List.flatten_nil, List.append_nil, List.cons_append, List.nil_append]
  after_results_simp
  rfl

end Cert.Entry

end
-- ==== Proof.Array.lean ====
/-
  What the kernel's result array holds after the run: each of the 32 grid points writes the block of 4096 packed rows that
  it computes, the blocks tile the array, and the reshape after the region unpacks two rows from each packed row.
-/
module

public import proofs.«01_k».proof.Proof.Entry
public import Idealize.ShloMosaic.Lib.Pipeline.Value

@[expose] public section

noncomputable section

open Idealize.ShloMosaic Idealize.ShloMosaic.TcCoe Idealize.SL.Sem
open Idealize.ShloMosaic.Pipeline (Dat)

namespace Cert.Array

open Cert.KernelIdeal Cert.KernelIdeal.Gen Cert.KernelIdeal.Facts Cert.Unpack

/-- The packed result as a function of the five arrays that the region reads. -/
def result (x : FVec Ideal S131072x128 .f32) (w1 : FVec Ideal S128x64 .f32) (b1 : FVec Ideal S1x64 .f32)
    (w2 : FVec Ideal S64x18 .f32) (b2 : FVec Ideal S1x18 .f32) : FVec Ideal S131072x18 .f32 := fun i =>
  Row.softmax (fun k => Block.packed (fun d => x (ix2 ⟨(i 0).val, (i 0).isLt⟩ d)) (fun d k => w1 (ix2 d k))
    (fun k => b1 (ix2 0 k)) (fun k j => w2 (ix2 k j)) (fun j => b2 (ix2 0 j))
    (Block.col ⟨(i 1).val / 9, by have h : (i 1).val < 18 := (i 1).isLt; omega⟩ k)) ⟨(i 1).val % 9, by omega⟩

/-- The packed result at a packed row, in half `s` and at class `q`. -/
theorem result_apply (x : FVec Ideal S131072x128 .f32) (w1 : FVec Ideal S128x64 .f32) (b1 : FVec Ideal S1x64 .f32)
    (w2 : FVec Ideal S64x18 .f32) (b2 : FVec Ideal S1x18 .f32) (p : Fin 131072) (s : Fin 2) (q : Fin 9) :
    result x w1 b1 w2 b2 (ix2 p (Block.col s q))
      = Row.softmax (fun k => Block.packed (fun d => x (ix2 p d)) (fun d k => w1 (ix2 d k))
          (fun k => b1 (ix2 0 k)) (fun k j => w2 (ix2 k j)) (fun j => b2 (ix2 0 j)) (Block.col s k)) q := by
  have hs : (⟨(Block.col s q).val / 9, by have h := (Block.col s q).isLt; omega⟩ : Fin 2) = s :=
    Fin.ext (by unfold Block.col; dsimp only; omega)
  have hq : (⟨(Block.col s q).val % 9, by omega⟩ : Fin 9) = q :=
    Fin.ext (by unfold Block.col; dsimp only; omega)
  show Row.softmax (fun k => Block.packed _ _ _ _ _ (Block.col ⟨(Block.col s q).val / 9, _⟩ k))
    ⟨(Block.col s q).val % 9, _⟩ = _
  rw [hs, hq]
  rfl

variable (m : (ℓ : Loc nD τ sig) → Buf (Elt Ideal) ℓ) (c : Dev nD)

theorem hz : (![0, 0] : Fin 2 → Nat) = fun _ => 0 := funext fun a => by fin_cases a <;> rfl

/-- The packed result of the arrays as the region finds them. -/
abbrev final : FVec Ideal S131072x18 .f32 :=
  result (V m c main_v0) (V m c main_v2) (V m c main_v6) (V m c main_v4) (V m c main_v8)

/-- The blocks' places: the features' and the result's at the point's own rows, the others at the origin. -/
theorem index_eq : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) := by
  decide +kernel

/-- The block of packed rows that point `t` reads, at a row and a feature. -/
theorem iblk0 (t : Fin cfg0.N) (r : Fin 4096) (d : Fin 128) (h : t.val * 4096 + r.val < 131072) :
    (iblk m c 0 t : FVec Ideal S4096x128 .f32) (ix2 r d)
      = (V m c main_v0 : FVec Ideal S131072x128 .f32) (ix2 ⟨t.val * 4096 + r.val, h⟩ d) := by
  unfold iblk
  rw [View.read_apply]
  show V m c main_v0 _ = V m c main_v0 _
  refine congrArg (V m c main_v0) (funext fun a => Fin.ext ?_)
  match a with
  | ⟨0, _⟩ => show win0_0.index t 0 * 4096 + 1 * r.val = t.val * 4096 + r.val; rw [(index_eq t).1.1]; omega
  | ⟨1, _⟩ => show win0_0.index t 1 * 128 + 1 * d.val = d.val; rw [(index_eq t).1.2]; omega

/-- Every point reads the first layer's weights whole. -/
theorem iblk1 (t : Fin cfg0.N) : (iblk m c 1 t : FVec Ideal S128x64 .f32) = V m c main_v2 := by
  funext j
  unfold iblk
  rw [View.read_apply]
  show V m c main_v2 _ = V m c main_v2 _
  refine congrArg (V m c main_v2) (funext fun a => Fin.ext ?_)
  match a with
  | ⟨0, _⟩ => show win0_1.index t 0 * 128 + 1 * (j 0).val = (j 0).val; rw [(index_eq t).2.1.1]; omega
  | ⟨1, _⟩ => show win0_1.index t 1 * 64 + 1 * (j 1).val = (j 1).val; rw [(index_eq t).2.1.2]; omega

/-- Every point reads the first layer's biases whole. -/
theorem iblk2 (t : Fin cfg0.N) : (iblk m c 2 t : FVec Ideal S1x64 .f32) = V m c main_v6 := by
  funext j
  unfold iblk
  rw [View.read_apply]
  show V m c main_v6 _ = V m c main_v6 _
  refine congrArg (V m c main_v6) (funext fun a => Fin.ext ?_)
  match a with
  | ⟨0, _⟩ => show win0_2.index t 0 * 1 + 1 * (j 0).val = (j 0).val; rw [(index_eq t).2.2.1.1]; omega
  | ⟨1, _⟩ => show win0_2.index t 1 * 64 + 1 * (j 1).val = (j 1).val; rw [(index_eq t).2.2.1.2]; omega

/-- Every point reads the second layer's weights whole. -/
theorem iblk3 (t : Fin cfg0.N) : (iblk m c 3 t : FVec Ideal S64x18 .f32) = V m c main_v4 := by
  funext j
  unfold iblk
  rw [View.read_apply]
  show V m c main_v4 _ = V m c main_v4 _
  refine congrArg (V m c main_v4) (funext fun a => Fin.ext ?_)
  match a with
  | ⟨0, _⟩ => show win0_3.index t 0 * 64 + 1 * (j 0).val = (j 0).val; rw [(index_eq t).2.2.2.1.1]; omega
  | ⟨1, _⟩ => show win0_3.index t 1 * 18 + 1 * (j 1).val = (j 1).val; rw [(index_eq t).2.2.2.1.2]; omega

/-- Every point reads the second layer's biases whole. -/
theorem iblk4 (t : Fin cfg0.N) : (iblk m c 4 t : FVec Ideal S1x18 .f32) = V m c main_v8 := by
  funext j
  unfold iblk
  rw [View.read_apply]
  show V m c main_v8 _ = V m c main_v8 _
  refine congrArg (V m c main_v8) (funext fun a => Fin.ext ?_)
  match a with
  | ⟨0, _⟩ => show win0_4.index t 0 * 1 + 1 * (j 0).val = (j 0).val; rw [(index_eq t).2.2.2.2.1.1]; omega
  | ⟨1, _⟩ => show win0_4.index t 1 * 18 + 1 * (j 1).val = (j 1).val; rw [(index_eq t).2.2.2.2.1.2]; omega

/-- Every column is that of a class in a half. -/
theorem exists_col (j : Fin 18) : ∃ s q, j = Block.col s q :=
  ⟨⟨j.val / 9, by omega⟩, ⟨j.val % 9, by omega⟩, Fin.ext (by unfold Block.col; dsimp only; omega)⟩

/-- The body's payload at point `t` is the packed result at the point's rows. -/
theorem payload_apply (t : Fin cfg0.N) (r : Fin 4096) (j : Fin 18) (h : t.val * 4096 + r.val < 131072) :
    k0_pay1 (k0_pay3 (iblk m c 0 t) (iblk m c 1 t) (iblk m c 2 t) (iblk m c 3 t) (iblk m c 4 t))
        (k0_pay4 (iblk m c 0 t) (iblk m c 1 t) (iblk m c 2 t) (iblk m c 3 t) (iblk m c 4 t)) (ix2 r j)
      = final m c (ix2 ⟨t.val * 4096 + r.val, h⟩ j) := by
  obtain ⟨s, q, rfl⟩ := exists_col j
  unfold final
  rw [result_apply, iblk1, iblk2, iblk3, iblk4]
  refine (Block.block_apply _ _ _ _ _ r s q).trans ?_
  have hx : (fun d => (iblk m c 0 t : FVec Ideal S4096x128 .f32) (ix2 r d))
      = fun d => (V m c main_v0 : FVec Ideal S131072x128 .f32) (ix2 ⟨t.val * 4096 + r.val, h⟩ d) :=
    funext fun d => iblk0 m c t r d h
  rw [hx]

/-- What point `t` writes back is its block of the packed result. -/
theorem flushed_eq (t : Fin cfg0.N) :
    (dats m 0 c).flushed 5 t = ((cfg0.win 5).blk t).view.read (Elt Ideal) (final m c) := by
  have hN : cfg0.N = 32 := N_0
  have ht := t.isLt
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz,
    View.ld_unit_zero hz]
  funext y
  have h0 : (y 0).val < 4096 := (y 0).isLt
  have h1 : (y 1).val < 18 := (y 1).isLt
  rw [View.read_apply]
  refine Eq.trans ?_ ((payload_apply m c t ⟨(y 0).val, h0⟩ ⟨(y 1).val, h1⟩ (by omega)).trans ?_)
  · refine congrArg _ (funext fun a => ?_)
    match a with
    | ⟨0, _⟩ => rfl
    | ⟨1, _⟩ => rfl
  · refine congrArg (final m c) (funext fun a => Fin.ext ?_)
    match a with
    | ⟨0, _⟩ => show t.val * 4096 + (y 0).val = win0_5.index t 0 * 4096 + 1 * (y 0).val
                rw [(index_eq t).2.2.2.2.2.1]; omega
    | ⟨1, _⟩ => show (y 1).val = win0_5.index t 1 * 18 + 1 * (y 1).val
                rw [(index_eq t).2.2.2.2.2.2]; omega

/-- An index of the result array is in point `t`'s block when its row is among the point's 4096. -/
theorem mem_blk (t : Fin cfg0.N) (i : S131072x18.Idx) :
    i ∈ ((cfg0.win 5).blk t).view.set ↔ t.val * 4096 ≤ (i 0 : Nat) ∧ (i 0 : Nat) < t.val * 4096 + 4096 := by
  show i ∈ ((View.whole main_v9).slice (win0_5.rect t)).set ↔ _
  rw [View.set_slice_whole, Rect.mem_set_unit]
  have h1 : (i 1 : Nat) < 18 := (i 1).isLt
  have e := (index_eq t).2.2.2.2.2
  refine ⟨fun h => ?_, fun h a => ?_⟩
  · have : win0_5.index t 0 * 4096 ≤ (i 0 : Nat) ∧ (i 0 : Nat) < win0_5.index t 0 * 4096 + 4096 := h 0
    rwa [e.1] at this
  · match a with
    | ⟨0, _⟩ => show win0_5.index t 0 * 4096 ≤ (i 0 : Nat) ∧ (i 0 : Nat) < win0_5.index t 0 * 4096 + 4096
                rw [e.1]; exact h
    | ⟨1, _⟩ => show win0_5.index t 1 * 18 ≤ (i 1 : Nat) ∧ (i 1 : Nat) < win0_5.index t 1 * 18 + 18
                rw [e.2]; omega

/-- The blocks tile the array. -/
theorem cover (i : S131072x18.Idx) :
    ∃ t : Fin cfg0.N, (cfg0.win 5).flush t = true ∧ i ∈ ((cfg0.win 5).blk t).view.set := by
  have h0 : (i 0 : Nat) < 131072 := (i 0).isLt
  have hN : cfg0.N = 32 := N_0
  refine ⟨⟨(i 0 : Nat) / 4096, by omega⟩, flush0_5 _, ?_⟩
  rw [mem_blk]
  dsimp only
  omega

/-- The region leaves the packed result in its output array. -/
theorem arr_eq : (dats m 0 c).arrAt 5 cfg0.N = final m c :=
  (dats m 0 c).arrAt_eq_of_cover 5 (final m c) (fun t _ => flushed_eq m c t) cover

/-- The unpacked result: the packed one reshaped to a row of nine classes per problem row. -/
def unpacked : FVec Ideal S262144x9 .f32 :=
  shapeCast S262144x9 (final m c) shapeCasts_S131072x18_S262144x9

/-- The reshape after the region leaves the unpacked result in the array that the program returns. -/
theorem tail_eq : Pipeline.afterTail₀ cfgs (dats m) 0 (V0 m) [hostOps1] c main_v10 = unpacked m c := by
  unfold Pipeline.afterTail₀
  simp only [List.flatten_cons, List.flatten_nil, List.append_nil]
  after_results_simp
  have h : Pipeline.withArrays (cfgs 0).spec c (V0 m c) (fun w => (dats m 0 c).arrAt w (cfgs 0).N)
      (Proc.devRef .tc main_v9) = final m c :=
    (Pipeline.withArrays_arr (cfgs 0).spec (by decide) c (V0 m c)
      (fun w => (dats m 0 c).arrAt w (cfgs 0).N) 5).trans (arr_eq m c)
  rw [h]
  rfl

/-- The reshape reads class `q` of row `n` in half `n mod 2` of packed row `n / 2`. -/
theorem reshape_apply (y : FVec Ideal S131072x18 .f32) (n : Fin 262144) (q : Fin 9) :
    shapeCast S262144x9 y shapeCasts_S131072x18_S262144x9 (ix2 n q)
      = y (ix2 ⟨n.val / 2, by omega⟩ (Block.col ⟨n.val % 2, by omega⟩ q)) := by
  pointwise [Block.col]
  refine congrArg y (funext fun a => Fin.ext ?_)
  match a with
  | ⟨0, _⟩ => dsimp only [ix2] <;> omega
  | ⟨1, _⟩ => dsimp only [ix2] <;> omega

/-- The unpacked result at row `n` and class `q`: softmax of the logits of the row. -/
theorem unpacked_apply (n : Fin 262144) (q : Fin 9) :
    unpacked m c (ix2 n q)
      = Row.softmax (Row.logits (fun d => (m ((c : Thread nD τ).loc main_arg0) : FVec Ideal S262144x64 .f32) (ix2 n d))
          (fun d k => (m ((c : Thread nD τ).loc main_arg1) : FVec Ideal S64x32 .f32) (ix2 d k))
          (fun k => (m ((c : Thread nD τ).loc main_arg2) : FVec Ideal S32 .f32) (ix1 k))
          (fun k q => (m ((c : Thread nD τ).loc main_arg3) : FVec Ideal S32x9 .f32) (ix2 k q))
          (fun q => (m ((c : Thread nD τ).loc main_arg4) : FVec Ideal S9 .f32) (ix1 q))) q := by
  have hp : n.val / 2 < 131072 := by omega
  have hrow : (⟨2 * (n.val / 2) + n.val % 2, by omega⟩ : Fin 262144) = n := Fin.ext (by dsimp only; omega)
  unfold unpacked final
  rw [reshape_apply, result_apply, Entry.V_x, Entry.V_w1, Entry.V_b1, Entry.V_w2, Entry.V_b2]
  refine congrArg (fun l => Row.softmax l q) (funext fun k => ?_)
  rw [col_eq]
  refine (packed_col _ _ _ _ _
    (fun j d => (m ((c : Thread nD τ).loc main_arg0) : FVec Ideal S262144x64 .f32)
      (ix2 ⟨2 * (n.val / 2) + j.val, by omega⟩ d)) _ _ _ _
    (fun j t => Entry.x2_apply _ ⟨n.val / 2, hp⟩ j t) (fun j t i k => Entry.w1p_apply _ j t i k)
    (fun i k => Entry.b1p_apply _ i k) (fun j k s q => Entry.w2p_apply _ j k s q)
    (fun s q => Entry.b2p_apply _ s q) ⟨n.val % 2, by omega⟩ k).trans ?_
  dsimp only
  rw [hrow]

/-- The run, read: the returned array holds the unpacked result and the arguments end as they began. -/
theorem run (ρ : Dev nD → PrngReg) :
    θ_run defs (onTc (τ := τ) (main (F := Ideal))) ⟨m, fun _ => 0, ρ⟩ fun r => ∀ c : Dev nD,
      r.2.mem ((c.tc : Thread nD τ).loc main_v10) = unpacked m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h.1 c).2 main_v10 (Pipeline.mem_restRefs_of main_v10 (by decide) (by decide))).trans (tail_eq m c), h.2 c⟩)
    (θ_run_and (run_main m ρ) (unchanged m ρ))

end Cert.Array

end
-- ==== Proof.RefValue.lean ====
/-
  The reference read at an index: its result at row `n` and class `q` is the softmax of the row's logits (Row.lean).
-/
module

public import proofs.«01_k».proof.Proof.Row
public import proofs.«01_k».proof.Proof.Gen.ReferenceIdeal.Run
public import Idealize.ShloMosaic.Lib.Pointwise

@[expose] public section

noncomputable section

open Idealize.ShloMosaic Idealize.ShloMosaic.TcCoe Idealize.SL.Sem

namespace Cert.RefValue

open Cert.ReferenceIdeal Cert.ReferenceIdeal.Value Cert.ReferenceIdeal.Gen Cert.ReferenceIdeal.Facts

/-- The hidden layer before its activation, of every row. -/
def hid (x : FVec Ideal S262144x64 .f32) (w1 : FVec Ideal S64x32 .f32) (b1 : FVec Ideal S32 .f32) :
    FVec Ideal S262144x32 .f32 :=
  addf (Host.dotGeneral dot_S262144x64_S64x32_S262144x32_1_0_0_1_n_n none x w1)
    (broadcastInDim S262144x32 ![0, 1] bcast_S1x32_S262144x32_0_1 (broadcastInDim S1x32 ![1] bcast_S32_S1x32_1 b1))

/-- The activation of every hidden unit. -/
def act (h : FVec Ideal S262144x32 .f32) : FVec Ideal S262144x32 .f32 :=
  mulf (mulf (broadcastInDim S262144x32 ![] bcast_S_S262144x32 (constant S_ .f32 0x3F000000#32)) h)
    (Host.erfc (Host.divf (Host.negf h)
      (broadcastInDim S262144x32 ![] bcast_S_S262144x32 (Host.sqrt (constant S_ .f32 0x40000000#32)))))

/-- The logits of every row, from the activations. -/
def out (g : FVec Ideal S262144x32 .f32) (w2 : FVec Ideal S32x9 .f32) (b2 : FVec Ideal S9 .f32) :
    FVec Ideal S262144x9 .f32 :=
  addf (Host.dotGeneral dot_S262144x32_S32x9_S262144x9_1_0_0_1_n_n none g w2)
    (broadcastInDim S262144x9 ![0, 1] bcast_S1x9_S262144x9_0_1 (broadcastInDim S1x9 ![1] bcast_S9_S1x9_1 b2))

/-- The exponentials of the logits less their row's largest. -/
def expd (l : FVec Ideal S262144x9 .f32) : FVec Ideal S262144x9 .f32 :=
  Host.exp (subf l (broadcastInDim S262144x9 ![0, 1] bcast_S262144x1_S262144x9_0_1
    (broadcastInDim S262144x1 ![0] bcast_S262144_S262144x1_0
      (maximumf (broadcastInDim S262144 ![] bcast_S_S262144 (constant S_ .f32 0xFF800000#32))
        (Host.reduce FloatOps.maximumf l (constant S_ .f32 0xFF800000#32) reducesTo_S262144x9_S262144_d1 h_S_)))))

/-- The exponentials over their row's sum. -/
def quot (e : FVec Ideal S262144x9 .f32) : FVec Ideal S262144x9 .f32 :=
  Host.divf e (broadcastInDim S262144x9 ![0, 1] bcast_S262144x1_S262144x9_0_1
    (broadcastInDim S262144x1 ![0] bcast_S262144_S262144x1_0
      (Host.reduceAdd e (constant S_ .f32 0x00000000#32) reducesTo_S262144x9_S262144_d1 h_S_)))

/-- A hidden unit of a row is the inner product of the row and the unit's weights, plus its bias. -/
theorem hid_apply (x : FVec Ideal S262144x64 .f32) (w1 : FVec Ideal S64x32 .f32) (b1 : FVec Ideal S32 .f32)
    (n : Fin 262144) (k : Fin 32) :
    hid x w1 b1 (ix2 n k) = Row.dense (fun d => x (ix2 n d)) (fun d => w1 (ix2 d k)) (b1 (ix1 k)) := by
  pointwise [hid, Row.dense]

/-- The activation is GELU. -/
theorem act_apply (h : FVec Ideal S262144x32 .f32) (n : Fin 262144) (k : Fin 32) :
    act h (ix2 n k) = Row.gelu (h (ix2 n k)) := by
  rw [← Row.gelu_erfc]
  pointwise [act]

/-- A logit of a row is the inner product of its activations and the class's weights, plus its bias. -/
theorem out_apply (g : FVec Ideal S262144x32 .f32) (w2 : FVec Ideal S32x9 .f32) (b2 : FVec Ideal S9 .f32)
    (n : Fin 262144) (q : Fin 9) :
    out g w2 b2 (ix2 n q) = Row.dense (fun k => g (ix2 n k)) (fun k => w2 (ix2 k q)) (b2 (ix1 q)) := by
  pointwise [out, Row.dense]

/-- A number per row, repeated along the row's classes, read at a row and a class. -/
theorem wide_apply (v : FVec Ideal S262144 .f32) (n : Fin 262144) (q : Fin 9) :
    broadcastInDim S262144x9 ![0, 1] bcast_S262144x1_S262144x9_0_1
      (broadcastInDim S262144x1 ![0] bcast_S262144_S262144x1_0 v) (ix2 n q) = v (ix1 n) := by
  pointwise

/-- A row's sum. -/
theorem sum_apply (e : FVec Ideal S262144x9 .f32) (n : Fin 262144) :
    Host.reduceAdd e (constant S_ .f32 0x00000000#32) reducesTo_S262144x9_S262144_d1 h_S_ (ix1 n)
      = ∑ k, e (ix2 n k) := by
  pointwise

/-- A row's largest entry. -/
theorem max_apply (l : FVec Ideal S262144x9 .f32) (n : Fin 262144) :
    Host.reduce FloatOps.maximumf l (constant S_ .f32 0xFF800000#32) reducesTo_S262144x9_S262144_d1 h_S_ (ix1 n)
      = Row.top fun k => l (ix2 n k) := by
  pointwise [Row.top, Row.ofBits_bot]

/-- The larger of minus infinity and a number is the number. -/
theorem floor_apply (v : FVec Ideal S262144 .f32) (n : Fin 262144) :
    maximumf (broadcastInDim S262144 ![] bcast_S_S262144 (constant S_ .f32 0xFF800000#32)) v (ix1 n) = v (ix1 n) := by
  pointwise [Row.ofBits_bot]
  rw [max_eq_right bot_le]

/-- The exponential of a difference of two arrays at an index. -/
theorem exp_subf_apply (l v : FVec Ideal S262144x9 .f32) (i : S262144x9.Idx) :
    Host.exp (subf l v) i = Ideal.exp (l i - v i) := by
  pointwise

/-- The host's quotient of two arrays at an index. -/
theorem divf_apply (l v : FVec Ideal S262144x9 .f32) (i : S262144x9.Idx) :
    Host.divf l v i = Ideal.div (l i) (v i) := by
  pointwise

/-- The exponential at a class is that of the logit less the row's largest. -/
theorem expd_apply (l : FVec Ideal S262144x9 .f32) (n : Fin 262144) (q : Fin 9) :
    expd l (ix2 n q) = Ideal.exp (l (ix2 n q) - Row.top fun k => l (ix2 n k)) := by
  rw [expd, exp_subf_apply, wide_apply, floor_apply, max_apply]

/-- The quotient at a class is by the sum over the row's classes. -/
theorem quot_apply (e : FVec Ideal S262144x9 .f32) (n : Fin 262144) (q : Fin 9) :
    quot e (ix2 n q) = Ideal.div (e (ix2 n q)) (∑ k, e (ix2 n k)) := by
  rw [quot, divf_apply, wide_apply, sum_apply]

/-- The whole chain at row `n` and class `q`: softmax of the logits of the row. -/
theorem chain_apply (x : FVec Ideal S262144x64 .f32) (w1 : FVec Ideal S64x32 .f32) (b1 : FVec Ideal S32 .f32)
    (w2 : FVec Ideal S32x9 .f32) (b2 : FVec Ideal S9 .f32) (n : Fin 262144) (q : Fin 9) :
    quot (expd (out (act (hid x w1 b1)) w2 b2)) (ix2 n q)
      = Row.softmax (Row.logits (fun d => x (ix2 n d)) (fun d k => w1 (ix2 d k)) (fun k => b1 (ix1 k))
          (fun k q => w2 (ix2 k q)) (fun q => b2 (ix1 q))) q := by
  rw [quot_apply]
  simp only [expd_apply, out_apply, act_apply, hid_apply]
  rfl

/-- The reference's result is the chain of its arguments. -/
theorem res_eq (m : (ℓ : Loc nD τ sig) → Buf (Elt Ideal) ℓ) (c : Dev nD) :
    res_out0 (F := Ideal) m c = quot (expd (out (act (hid
      (m ((c.tc : Thread nD τ).loc main_arg0)) (m ((c.tc : Thread nD τ).loc main_arg1))
      (m ((c.tc : Thread nD τ).loc main_arg2)))) (m ((c.tc : Thread nD τ).loc main_arg3))
      (m ((c.tc : Thread nD τ).loc main_arg4)))) := by
  unfold res_out0 res_main_v26 quot expd out act hid
  rfl

end Cert.RefValue

end
-- ==== Proof.lean ====
/-
  The proof of `Cert.Claim`: the three programs' frames, the named constant, and that the idealized kernel returns what
  the idealized reference returns. The value claim is read off two runs: the kernel's result at row `n` and class `q`
  (Proof/Array.lean) and the reference's (Proof/RefValue.lean) are one function of the arguments, the softmax of the row's
  logits (Proof/Row.lean).
-/
module

public import proofs.«01_k».proof.Defs
public import proofs.«01_k».proof.Proof.Array
public import proofs.«01_k».proof.Proof.RefValue
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel's runs end with its arguments unchanged and every semaphore at zero. -/
theorem frame_kernel : Cert.quiescent_Kernel := fun m ρ _ => Cert.Kernel.Gen.frame m ρ

/-- The idealized kernel's runs end with its arguments unchanged and every semaphore at zero. -/
theorem frame_ideal : Cert.quiescent_KernelIdeal := fun m ρ _ => Cert.KernelIdeal.Gen.frame m ρ

/-- The idealized reference's runs end with its arguments unchanged and every semaphore at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewriting of the kernel names the inverse of the square root of two. -/
theorem preserves : Cert.preserves_Kernel_KernelIdeal :=
  IdealRules.named_const.statement Cert.KernelIdeal.κ "sqrt_half" .f32 0x3F3504F3#32 _ rfl

/-- From equal arguments the reference's result is the kernel's, at every row and class. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_out0 (F := Ideal) m' c = Cert.Array.unpacked m c := by
  refine (Cert.RefValue.res_eq m' c).trans ?_
  rw [h.1, h.2.1, h.2.2.1, h.2.2.2.1, h.2.2.2.2]
  funext i
  rw [eq_ix2 (n0 := 262144) (n1 := 9) i]
  exact (Cert.RefValue.chain_apply _ _ _ _ _ _ _).trans (Cert.Array.unpacked_apply m c _ _).symm

/-- Over the extended reals the kernel and the reference return the same array. -/
theorem algebraic : Cert.algebraic_KernelIdeal_ReferenceIdeal := by
  intro m ρ m' ρ' _ hagree
  refine ⟨fun c => Cert.Array.unpacked m c, Cert.Array.run m ρ, ?_⟩
  exact (θ_run Cert.ReferenceIdeal.defs _ _).mono
    (fun _ h c => ⟨(h c).1.trans (values_eq m m' c (hagree c)), (h c).2⟩)
    (Cert.ReferenceIdeal.Value.run (F := Ideal) m' ρ')

/-- The certificate's claim. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
